-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000x2048 : Shape := ⟨3, ![64, 1000, 2048]⟩
abbrev S35x2048 : Shape := ⟨2, ![35, 2048]⟩
abbrev S35 : Shape := ⟨1, ![35]⟩
abbrev S1000 : Shape := ⟨1, ![1000]⟩
abbrev S_ : Shape := ⟨0, ![]⟩
abbrev S5x1x200 : Shape := ⟨3, ![5, 1, 200]⟩
abbrev S1x35 : Shape := ⟨2, ![1, 35]⟩
abbrev S64x1x35 : Shape := ⟨3, ![64, 1, 35]⟩
abbrev S1x1x200 : Shape := ⟨3, ![1, 1, 200]⟩
abbrev S1x200x2048 : Shape := ⟨3, ![1, 200, 2048]⟩
abbrev S1x1x35 : Shape := ⟨3, ![1, 1, 35]⟩
abbrev S1x2048 : Shape := ⟨2, ![1, 2048]⟩
abbrev S200x2048 : Shape := ⟨2, ![200, 2048]⟩
abbrev S1x200 : Shape := ⟨2, ![1, 200]⟩
abbrev S64x35 : Shape := ⟨2, ![64, 35]⟩

abbrev nBuf : Space → Nat
  | .hbm => 17
  | .vmem => 9
  | .smem => 0
  | _ => 0

abbrev bufTy : (tb : Table) → Fin (tcTables nBuf tb) → BufTy
  | .hbm, ⟨0, _⟩ => ⟨S64x1000x2048, .f32⟩
  | .hbm, ⟨1, _⟩ => ⟨S35x2048, .f32⟩
  | .hbm, ⟨2, _⟩ => ⟨S35, .f32⟩
  | .hbm, ⟨3, _⟩ => ⟨S1000, .f32⟩
  | .hbm, ⟨4, _⟩ => ⟨S1000, .f32⟩
  | .hbm, ⟨5, _⟩ => ⟨S_, .f32⟩
  | .hbm, ⟨6, _⟩ => ⟨S1000, .f32⟩
  | .hbm, ⟨7, _⟩ => ⟨S1000, .f32⟩
  | .hbm, ⟨8, _⟩ => ⟨S1000, .f32⟩
  | .hbm, ⟨9, _⟩ => ⟨S_, .f32⟩
  | .hbm, ⟨10, _⟩ => ⟨S_, .f32⟩
  | .hbm, ⟨11, _⟩ => ⟨S1000, .f32⟩
  | .hbm, ⟨12, _⟩ => ⟨S1000, .f32⟩
  | .hbm, ⟨13, _⟩ => ⟨S5x1x200, .f32⟩
  | .hbm, ⟨14, _⟩ => ⟨S1x35, .f32⟩
  | .hbm, ⟨15, _⟩ => ⟨S64x1x35, .f32⟩
  | .hbm, ⟨16, _⟩ => ⟨S64x35, .f32⟩
  | .local _ .vmem, ⟨0, _⟩ => ⟨S1x1x200, .f32⟩
  | .local _ .vmem, ⟨1, _⟩ => ⟨S1x1x200, .f32⟩
  | .local _ .vmem, ⟨2, _⟩ => ⟨S1x200x2048, .f32⟩
  | .local _ .vmem, ⟨3, _⟩ => ⟨S1x200x2048, .f32⟩
  | .local _ .vmem, ⟨4, _⟩ => ⟨S35x2048, .f32⟩
  | .local _ .vmem, ⟨5, _⟩ => ⟨S1x35, .f32⟩
  | .local _ .vmem, ⟨6, _⟩ => ⟨S1x1x35, .f32⟩
  | .local _ .vmem, ⟨7, _⟩ => ⟨S1x1x35, .f32⟩
  | .local _ .vmem, ⟨8, _⟩ => ⟨S1x2048, .f32⟩
  | _, _ => ⟨S64x1000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 5], ![false, false]⟩

def k0_cond3 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x200x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S35x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x35 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x35 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S64x1000x2048 : Shape := ⟨3, ![64, 1000, 2048]⟩
abbrev S35x2048 : Shape := ⟨2, ![35, 2048]⟩
abbrev S35 : Shape := ⟨1, ![35]⟩
abbrev S1000 : Shape := ⟨1, ![1000]⟩
abbrev S_ : Shape := ⟨0, ![]⟩
abbrev S64x2048 : Shape := ⟨2, ![64, 2048]⟩
abbrev S2048x35 : Shape := ⟨2, ![2048, 35]⟩
abbrev S64x35 : Shape := ⟨2, ![64, 35]⟩
abbrev S1x35 : Shape := ⟨2, ![1, 35]⟩

abbrev nBuf : Space → Nat
  | .hbm => 19
  | .vmem => 0
  | .smem => 0
  | _ => 0

abbrev bufTy : (tb : Table) → Fin (tcTables nBuf tb) → BufTy
  | .hbm, ⟨0, _⟩ => ⟨S64x1000x2048, .f32⟩
  | .hbm, ⟨1, _⟩ => ⟨S35x2048, .f32⟩
  | .hbm, ⟨2, _⟩ => ⟨S35, .f32⟩
  | .hbm, ⟨3, _⟩ => ⟨S1000, .f32⟩
  | .hbm, ⟨4, _⟩ => ⟨S1000, .f32⟩
  | .hbm, ⟨5, _⟩ => ⟨S_, .f32⟩
  | .hbm, ⟨6, _⟩ => ⟨S1000, .f32⟩
  | .hbm, ⟨7, _⟩ => ⟨S1000, .f32⟩
  | .hbm, ⟨8, _⟩ => ⟨S1000, .f32⟩
  | .hbm, ⟨9, _⟩ => ⟨S_, .f32⟩
  | .hbm, ⟨10, _⟩ => ⟨S_, .f32⟩
  | .hbm, ⟨11, _⟩ => ⟨S1000, .f32⟩
  | .hbm, ⟨12, _⟩ => ⟨S1000, .f32⟩
  | .hbm, ⟨13, _⟩ => ⟨S64x2048, .f32⟩
  | .hbm, ⟨14, _⟩ => ⟨S2048x35, .f32⟩
  | .hbm, ⟨15, _⟩ => ⟨S64x35, .f32⟩
  | .hbm, ⟨16, _⟩ => ⟨S1x35, .f32⟩
  | .hbm, ⟨17, _⟩ => ⟨S64x35, .f32⟩
  | .hbm, ⟨18, _⟩ => ⟨S64x35, .f32⟩
  | _, _ => ⟨S64x1000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Step.lean ====
/-
  What one grid step of the kernel leaves behind.

  A step holds a block `x0` of 200 decay weights, a block `x1` of 200 time steps by 2048 neurons, the readout
  weights `x2`, the bias row `x3`, and the accumulator row `acc` left by the step before it. There are three kinds of step:
  the first of a batch row starts the accumulator, the middle ones add to it, the last adds to it and then writes the readout.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Step

open Cert.KernelIdeal Cert.KernelIdeal.Gen

variable {F : FTy → Type} [FloatOps F]

/-- A load or store at offset zero on both axes. -/
theorem off2 : (![0, 0] : Fin 2 → Nat) = fun _ => 0 := by funext a; match a with | ⟨0, _⟩ => rfl | ⟨1, _⟩ => rfl

/-- A load or store at offset zero on all three axes. -/
theorem off3 : (![0, 0, 0] : Fin 3 → Nat) = fun _ => 0 := by
  funext a; match a with | ⟨0, _⟩ => rfl | ⟨1, _⟩ => rfl | ⟨2, _⟩ => rfl

/-- The first step of a batch row leaves the weighted sum of its own block in the accumulator. -/
theorem first_acc (c : Dev nD) (i : grid0.Coords) (a2 : Memref sig .tc .vmem S1x1x200 .f32) (h2 : a2.IsWhole) (a3 : Memref sig .tc .vmem S1x200x2048 .f32) (h3 : a3.IsWhole)
    (a4 : Memref sig .tc .vmem S35x2048 .f32) (h4 : a4.IsWhole) (a5 : Memref sig .tc .vmem S1x35 .f32) (h5 : a5.IsWhole)
    (a6 : Memref sig .tc .vmem S1x1x35 .f32) (h6 : a6.IsWhole) (a7 : Memref sig .tc .vmem S1x2048 .f32) (h7 : a7.IsWhole)
    (hc0 : cond0_0 i) (hc1 : ¬cond0_1 i) (hc2 : ¬cond0_2 i)
    (x0 : Vec F S1x1x200 .f32) (x1 : Vec F S1x200x2048 .f32) (x2 : Vec F S35x2048 .f32) (x3 : Vec F S1x35 .f32) :
    sout0_A_0 c i a2 h2 a3 h3 a4 h4 a5 h5 a6 h6 a7 h7 hc0 hc1 hc2 x0 x1 x2 x3 = k0_pay1 x1 x0 := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  rw [View.canon_unit_zero off2]
  unfold k0_pay2
  simp only [View.readAt_eq_ld, h2.read_unread, h3.read_unread, h4.read_unread, h5.read_unread, h7.read_unread,
    View.ld_unit_zero (S := S1x1x200) off3, View.ld_unit_zero (S := S1x200x2048) off3, View.ld_unit_zero (S := S35x2048) off2,
    View.ld_unit_zero (S := S1x35) off2, View.ld_unit_zero (S := S1x2048) off2, shapeCast_self]

/-- A middle step adds the weighted sum of its block to the accumulator. -/
theorem middle_acc (c : Dev nD) (i : grid0.Coords) (a2 : Memref sig .tc .vmem S1x1x200 .f32) (h2 : a2.IsWhole) (a3 : Memref sig .tc .vmem S1x200x2048 .f32) (h3 : a3.IsWhole)
    (a4 : Memref sig .tc .vmem S35x2048 .f32) (h4 : a4.IsWhole) (a5 : Memref sig .tc .vmem S1x35 .f32) (h5 : a5.IsWhole)
    (a6 : Memref sig .tc .vmem S1x1x35 .f32) (h6 : a6.IsWhole) (a7 : Memref sig .tc .vmem S1x2048 .f32) (h7 : a7.IsWhole)
    (hc0 : ¬cond0_0 i) (hc1 : cond0_1 i) (hc2 : ¬cond0_2 i)
    (x0 : Vec F S1x1x200 .f32) (x1 : Vec F S1x200x2048 .f32) (x2 : Vec F S35x2048 .f32) (x3 : Vec F S1x35 .f32) (acc : Vec F S1x2048 .f32) :
    sout0_B_0 c i a2 h2 a3 h3 a4 h4 a5 h5 a6 h6 a7 h7 hc0 hc1 hc2 x0 x1 x2 x3 acc = addf acc (k0_pay1 x1 x0) := by
  unfold sout0_B_0
  rw [View.read_writes_eq_canon _ _ _ (scover0_B_0 c i a2 h2 a3 h3 a4 h4 a5 h5 a6 h6 a7 h7 hc0 hc1 hc2 x0 x1 x2 x3 acc)]
  unfold kernelRun0_B
  dsimp only
  rw [View.canon_unit_zero off2]
  unfold k0_pay3
  simp only [View.readAt_eq_ld, h2.read_unread, h3.read_unread, h4.read_unread, h5.read_unread, h7.read_unread,
    View.ld_unit_zero (S := S1x1x200) off3, View.ld_unit_zero (S := S1x200x2048) off3, View.ld_unit_zero (S := S35x2048) off2,
    View.ld_unit_zero (S := S1x35) off2, View.ld_unit_zero (S := S1x2048) off2, shapeCast_self]

/-- So does the last step of a batch row. -/
theorem last_acc (c : Dev nD) (i : grid0.Coords) (a2 : Memref sig .tc .vmem S1x1x200 .f32) (h2 : a2.IsWhole) (a3 : Memref sig .tc .vmem S1x200x2048 .f32) (h3 : a3.IsWhole)
    (a4 : Memref sig .tc .vmem S35x2048 .f32) (h4 : a4.IsWhole) (a5 : Memref sig .tc .vmem S1x35 .f32) (h5 : a5.IsWhole)
    (a6 : Memref sig .tc .vmem S1x1x35 .f32) (h6 : a6.IsWhole) (a7 : Memref sig .tc .vmem S1x2048 .f32) (h7 : a7.IsWhole)
    (hc0 : ¬cond0_0 i) (hc1 : cond0_1 i) (hc2 : cond0_2 i)
    (x0 : Vec F S1x1x200 .f32) (x1 : Vec F S1x200x2048 .f32) (x2 : Vec F S35x2048 .f32) (x3 : Vec F S1x35 .f32) (acc : Vec F S1x2048 .f32) :
    sout0_C_0 c i a2 h2 a3 h3 a4 h4 a5 h5 a6 h6 a7 h7 hc0 hc1 hc2 x0 x1 x2 x3 acc = addf acc (k0_pay1 x1 x0) := by
  unfold sout0_C_0
  rw [View.read_writes_eq_canon _ _ _ (scover0_C_0 c i a2 h2 a3 h3 a4 h4 a5 h5 a6 h6 a7 h7 hc0 hc1 hc2 x0 x1 x2 x3 acc)]
  unfold kernelRun0_C
  dsimp only
  sl_unfold_words
  rw [View.canon_unit_zero off2]
  unfold k0_pay3
  simp only [View.readAt_eq_ld, h2.read_unread, h3.read_unread, h4.read_unread, h5.read_unread, h7.read_unread,
    View.ld_unit_zero (S := S1x1x200) off3, View.ld_unit_zero (S := S1x200x2048) off3, View.ld_unit_zero (S := S35x2048) off2,
    View.ld_unit_zero (S := S1x35) off2, View.ld_unit_zero (S := S1x2048) off2, shapeCast_self]

/-- The last step writes the readout of the accumulator it has just finished. -/
theorem last_out (c : Dev nD) (i : grid0.Coords) (a2 : Memref sig .tc .vmem S1x1x200 .f32) (h2 : a2.IsWhole) (a3 : Memref sig .tc .vmem S1x200x2048 .f32) (h3 : a3.IsWhole)
    (a4 : Memref sig .tc .vmem S35x2048 .f32) (h4 : a4.IsWhole) (a5 : Memref sig .tc .vmem S1x35 .f32) (h5 : a5.IsWhole)
    (a6 : Memref sig .tc .vmem S1x1x35 .f32) (h6 : a6.IsWhole) (a7 : Memref sig .tc .vmem S1x2048 .f32) (h7 : a7.IsWhole)
    (hc0 : ¬cond0_0 i) (hc1 : cond0_1 i) (hc2 : cond0_2 i)
    (x0 : Vec F S1x1x200 .f32) (x1 : Vec F S1x200x2048 .f32) (x2 : Vec F S35x2048 .f32) (x3 : Vec F S1x35 .f32) (acc : Vec F S1x2048 .f32) :
    out0_C_4 c i a2 h2 a3 h3 a4 h4 a5 h5 a6 h6 a7 h7 hc0 hc1 hc2 x0 x1 x2 x3 acc = k0_pay4 (addf acc (k0_pay1 x1 x0)) x2 x3 := by
  unfold out0_C_4
  rw [View.read_writes_eq_canon _ _ _ (cover0_C_4 c i a2 h2 a3 h3 a4 h4 a5 h5 a6 h6 a7 h7 hc0 hc1 hc2 x0 x1 x2 x3 acc)]
  unfold kernelRun0_C
  dsimp only
  sl_unfold_words
  rw [View.readCov_unit_zero (S := S1x2048) _ off2]
  rw [View.canon_unit_zero off3]
  unfold k0_pay3
  simp only [View.readAt_eq_ld, h2.read_unread, h3.read_unread, h4.read_unread, h5.read_unread, h7.read_unread,
    View.ld_unit_zero (S := S1x1x200) off3, View.ld_unit_zero (S := S1x200x2048) off3, View.ld_unit_zero (S := S35x2048) off2,
    View.ld_unit_zero (S := S1x35) off2, View.ld_unit_zero (S := S1x2048) off2, shapeCast_self]

end Cert.KernelIdeal.Step
-- ==== Proof.Blocks.lean ====
/-
  The kernel's block arithmetic, entry by entry over the extended reals.
-/
module

public import proofs.«01_k».proof.Proof.Gen.KernelIdeal.Frame
public import Idealize.ShloMosaic.Lib.Pipeline.Value
public import Idealize.ShloMosaic.Lib.MatmulPlain
public import Idealize.ShloMosaic.Lib.ValueIdxCore

@[expose] public section

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

/-- One block's weighted sum at neuron `n`: the block's 200 decay weights times its 200 spikes of that neuron, summed. -/
theorem weighted_apply (x1 : Vec Ideal S1x200x2048 .f32) (x0 : Vec Ideal S1x1x200 .f32) (n : Fin 2048) :
    k0_pay1 x1 x0 (ix2 0 n) = ∑ k : Fin 200, x0 (ix3 0 0 k) * x1 (ix3 0 k n) := by
  unfold k0_pay1
  refine (Ideal.matmul_plain_apply (M := 1) (K := 200) (N := 2048) none _ _ _ 0 n).trans ?_
  have hz : (constant (F := Ideal) S1x2048 .f32 0x00000000#32) (ix2 0 n) = 0 := Ideal.ofBits_zero_f32
  rw [hz, zero_add]
  refine Finset.sum_congr rfl fun k _ => ?_
  congr 1
  · refine shapeCast_apply x0 _ _ (ix3 0 0 k) ?_
    rw [Shape.rowMajor_val_three, Shape.rowMajor_val_two]; rfl
  · refine shapeCast_apply x1 _ _ (ix3 0 k n) ?_
    rw [Shape.rowMajor_val_three, Shape.rowMajor_val_two]
    show (0 * 200 + k.val) * 2048 + n.val = k.val * 2048 + n.val
    omega

/-- The readout at output `o`: the accumulator against row `o` of the readout weights, plus the bias. -/
theorem readout_apply (acc : Vec Ideal S1x2048 .f32) (x2 : Vec Ideal S35x2048 .f32) (x3 : Vec Ideal S1x35 .f32) (o : Fin 35) :
    k0_pay4 acc x2 x3 (ix3 0 0 o) = (∑ n : Fin 2048, acc (ix2 0 n) * x2 (ix2 o n)) + x3 (ix2 0 o) := by
  unfold k0_pay4
  refine (shapeCast_apply _ _ _ (ix2 0 o) (by rw [Shape.rowMajor_val_three, Shape.rowMajor_val_two]; rfl)).trans ?_
  rw [shapeCast_self]
  refine congrArg (· + x3 (ix2 0 o)) ((Ideal.matmul_transposedRhs_apply (M := 1) (K := 2048) (N := 35) none _ _ _ 0 o).trans ?_)
  have hz : (constant (F := Ideal) S1x35 .f32 0x00000000#32) (ix2 0 o) = 0 := Ideal.ofBits_zero_f32
  rw [hz, zero_add]

end Cert.KernelIdeal.Blocks
-- ==== Proof.Readout.lean ====
/-
  The mathematics both programs compute: firing rates smoothed by a decay, then a linear readout.
  Nothing here mentions a program.
-/
module

public import Idealize.ShloMosaic.PureOps.Ideal
public import Idealize.ShloMosaic.Lib.ValueIdxCore

@[expose] public section

noncomputable section

open Idealize.ShloMosaic Idealize.ShloMosaic.ValueIdx
open scoped BigOperators

namespace Cert.Readout

/-- The spike trains: 64 batch rows, 1000 time steps, 2048 neurons. -/
abbrev Spikes := (⟨3, ![64, 1000, 2048]⟩ : Shape).Idx → EReal
/-- One decay weight for each time step. -/
abbrev Decay := (⟨1, ![1000]⟩ : Shape).Idx → EReal
/-- The readout weights, one row for each of the 35 outputs. -/
abbrev Weights := (⟨2, ![35, 2048]⟩ : Shape).Idx → EReal
/-- The readout bias. -/
abbrev Bias := (⟨1, ![35]⟩ : Shape).Idx → EReal

/-- The smoothed firing rate of neuron `n` in batch row `b`: its spikes weighted by the decay, over all time. -/
def rate (s : Spikes) (d : Decay) (b : Fin 64) (n : Fin 2048) : EReal := ∑ t : Fin 1000, s (ix3 b t n) * d (ix1 t)

/-- The readout of batch row `b` at output `o`. -/
def readout (s : Spikes) (d : Decay) (w : Weights) (β : Bias) (b : Fin 64) (o : Fin 35) : EReal :=
  (∑ n : Fin 2048, rate s d b n * w (ix2 o n)) + β (ix1 o)

/-- The contribution of time step `t` to that rate, over plain numbers (zero outside the arrays). -/
def term (s : Spikes) (d : Decay) (b : ℕ) (n : Fin 2048) (t : ℕ) : EReal :=
  if h : b < 64 ∧ t < 1000 then d (ix1 ⟨t, h.2⟩) * s (ix3 ⟨b, h.1⟩ ⟨t, h.2⟩ n) else 0

/-- The contributions of the first `k` time steps. -/
def upTo (s : Spikes) (d : Decay) (b : ℕ) (n : Fin 2048) (k : ℕ) : EReal := ∑ t ∈ Finset.range k, term s d b n t

/-- Taking a further block of 200 time steps adds that block's contributions. -/
theorem upTo_block (s : Spikes) (d : Decay) (b : ℕ) (n : Fin 2048) (j : ℕ) :
    upTo s d b n (200 * (j + 1)) = upTo s d b n (200 * j) + ∑ k : Fin 200, term s d b n (200 * j + k.val) := by
  unfold upTo
  rw [Nat.mul_succ, Finset.sum_range_add, Finset.sum_range (fun k => term s d b n (200 * j + k))]

/-- No time steps contribute nothing. -/
theorem upTo_zero (s : Spikes) (d : Decay) (b : ℕ) (n : Fin 2048) : upTo s d b n 0 = 0 := rfl

/-- All 1000 time steps together are the smoothed firing rate. -/
theorem upTo_all (s : Spikes) (d : Decay) (b : Fin 64) (n : Fin 2048) : upTo s d b.val n 1000 = rate s d b n := by
  unfold upTo rate
  rw [Finset.sum_range]
  refine Finset.sum_congr rfl fun t _ => ?_
  unfold term
  rw [dif_pos ⟨b.isLt, t.isLt⟩, mul_comm]

end Cert.Readout
-- ==== Proof.Accumulate.lean ====
/-
  What the grid's blocks are, and what the accumulator holds after each grid step.

  Step `t` works on batch row `t / 5` and on time block `t % 5`, 200 time steps long.
-/
module

public import proofs.«01_k».proof.Proof.Step
public import proofs.«01_k».proof.Proof.Blocks
public import proofs.«01_k».proof.Proof.Readout
public import Idealize.ShloMosaic.Lib.StableHlo.Run

@[expose] public section

set_option maxRecDepth 16384

noncomputable section

open Idealize.ShloMosaic Idealize.ShloMosaic.TcCoe Idealize.SL.Sem

namespace Cert.KernelIdeal.Accumulate

open Cert.KernelIdeal Cert.KernelIdeal.Gen Idealize.ShloMosaic.ValueIdx Cert.Readout

variable (m : (ℓ : Loc nD τ sig) → Buf (Elt Ideal) ℓ)

/-- The decay weights: `exp (-t / 10)` over their sum. -/
def decay : FVec Ideal S1000 .f32 :=
  Host.divf (Host.exp (Host.divf (Host.negf (sitofp .f32 (iotaInDim S1000 32 0))) (broadcastInDim S1000 ![] bcast_S_S1000 (constant S_ .f32 0x41200000#32))))
    (broadcastInDim S1000 ![] bcast_S_S1000
      (Host.reduceAdd (Host.exp (Host.divf (Host.negf (sitofp .f32 (iotaInDim S1000 32 0))) (broadcastInDim S1000 ![] bcast_S_S1000 (constant S_ .f32 0x41200000#32))))
        (constant S_ .f32 0x00000000#32) reducesTo_S1000_S_d0 h_S_))

/-- The spike trains on device `c`. -/
abbrev spikes (c : Dev nD) : Spikes := m ((c : Thread nD τ).loc main_arg0)
/-- The readout weights on device `c`. -/
abbrev weights (c : Dev nD) : Weights := m ((c : Thread nD τ).loc main_arg1)
/-- The readout bias on device `c`. -/
abbrev bias (c : Dev nD) : Bias := m ((c : Thread nD τ).loc main_arg2)

/-- Before the grid runs, the weights have been cut into 5 blocks of 200. -/
theorem decay_blocks (c : Dev nD) : V m c main_v8 = shapeCast S5x1x200 decay shapeCasts_S1000_S5x1x200 := by
  show StableHlo.after hostOps0 (fun b => m (c, b)) (Proc.devRef .tc main_v8) = _
  after_results
  rfl

/-- And the bias has been made a one-row matrix. -/
theorem bias_row (c : Dev nD) : V m c main_v9 = shapeCast S1x35 (bias m c) shapeCasts_S35_S1x35 := by
  show StableHlo.after hostOps0 (fun b => m (c, b)) (Proc.devRef .tc main_v9) = _
  after_results
  rfl

/-- Where each input block of step `t` starts. -/
theorem starts : ∀ t : Fin cfg0.N,
    (win0_0.index t (0 : Fin 3) = t.val % 5 ∧ win0_0.index t (1 : Fin 3) = 0 ∧ win0_0.index t (2 : Fin 3) = 0)
    ∧ (win0_1.index t (0 : Fin 3) = t.val / 5 ∧ win0_1.index t (1 : Fin 3) = t.val % 5 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- There are 320 steps. -/
theorem step_lt (t : Fin cfg0.N) : t.val < 320 := lt_of_lt_of_eq t.isLt N_0

/-- Entry `k` of step `t`'s decay block is the weight of time step `200 (t % 5) + k`. -/
theorem decay_block (c : Dev nD) (t : Fin cfg0.N) (k : Fin 200) (h : 200 * (t.val % 5) + k.val < 1000) :
    iblk m c 0 t (ix3 0 0 k) = decay (ix1 ⟨200 * (t.val % 5) + k.val, h⟩) := by
  obtain ⟨⟨e0, e1, e2⟩, -⟩ := starts t
  have hj : t.val % 5 < 5 := Nat.mod_lt _ (by decide)
  unfold iblk
  rw [View.read_apply]
  show V m c main_v8 _ = _
  rw [decay_blocks]
  refine shapeCast_apply _ _ _ _ ?_
  rw [Shape.rowMajor_val_one, Shape.rowMajor_val_three]
  show 200 * (t.val % 5) + k.val = ((win0_0.index t (0 : Fin 3) * 1 + 1 * 0) * 1 + (win0_0.index t (1 : Fin 3) * 1 + 1 * 0)) * 200 + (win0_0.index t (2 : Fin 3) * 200 + 1 * k.val)
  omega

/-- Entry `(k, n)` of step `t`'s spike block is neuron `n` of batch row `t / 5` at time step `200 (t % 5) + k`. -/
theorem spike_block (c : Dev nD) (t : Fin cfg0.N) (k : Fin 200) (n : Fin 2048) (hb : t.val / 5 < 64) (h : 200 * (t.val % 5) + k.val < 1000) :
    iblk m c 1 t (ix3 0 k n) = spikes m c (ix3 ⟨t.val / 5, hb⟩ ⟨200 * (t.val % 5) + k.val, h⟩ n) := by
  obtain ⟨-, ⟨e0, e1, e2⟩, -⟩ := starts t
  unfold iblk
  rw [View.read_apply]
  show V m c main_arg0 _ = _
  rw [V_main_arg0]
  congr 1
  funext a; apply Fin.ext
  match a with
  | ⟨0, _⟩ => show win0_1.index t (0 : Fin 3) * 1 + 1 * 0 = t.val / 5; omega
  | ⟨1, _⟩ => show win0_1.index t (1 : Fin 3) * 200 + 1 * k.val = 200 * (t.val % 5) + k.val; omega
  | ⟨2, _⟩ => show win0_1.index t (2 : Fin 3) * 2048 + 1 * n.val = n.val; omega

/-- Every step sees all the readout weights. -/
theorem weight_block (c : Dev nD) (t : Fin cfg0.N) (o : Fin 35) (n : Fin 2048) : iblk m c 2 t (ix2 o n) = weights m c (ix2 o n) := by
  obtain ⟨-, -, ⟨e0, e1⟩, -⟩ := starts t
  unfold iblk
  rw [View.read_apply]
  show V m c main_arg1 _ = _
  rw [V_main_arg1]
  congr 1
  funext a; apply Fin.ext
  match a with
  | ⟨0, _⟩ => show win0_2.index t (0 : Fin 2) * 35 + 1 * o.val = o.val; omega
  | ⟨1, _⟩ => show win0_2.index t (1 : Fin 2) * 2048 + 1 * n.val = n.val; omega

/-- Every step sees the whole bias row. -/
theorem bias_block (c : Dev nD) (t : Fin cfg0.N) (o : Fin 35) : iblk m c 3 t (ix2 0 o) = bias m c (ix1 o) := by
  obtain ⟨-, -, -, ⟨e0, e1⟩⟩ := starts t
  unfold iblk
  rw [View.read_apply]
  show V m c main_v9 _ = _
  rw [bias_row]
  refine shapeCast_apply _ _ _ _ ?_
  rw [Shape.rowMajor_val_one, Shape.rowMajor_val_two]
  show o.val = (win0_3.index t (0 : Fin 2) * 1 + 1 * 0) * 35 + (win0_3.index t (1 : Fin 2) * 35 + 1 * o.val)
  omega

/-- The weighted sum of step `t`'s block is the contribution of its 200 time steps. -/
theorem block_sum (c : Dev nD) (t : Fin cfg0.N) (n : Fin 2048) :
    k0_pay1 (iblk m c 1 t) (iblk m c 0 t) (ix2 0 n)
      = ∑ k : Fin 200, term (spikes m c) decay (t.val / 5) n (200 * (t.val % 5) + k.val) := by
  have ht := step_lt t
  refine (Blocks.weighted_apply _ _ n).trans (Finset.sum_congr rfl fun k _ => ?_)
  have hk := k.isLt
  have hb : t.val / 5 < 64 := by omega
  have h : 200 * (t.val % 5) + k.val < 1000 := by omega
  rw [decay_block m c t k h, spike_block m c t k n hb h, term, dif_pos ⟨hb, h⟩]

/-- After step `t` the accumulator holds, for each neuron, the contributions of batch row `t / 5` up to the end of its block. -/
theorem acc_after (c : Dev nD) (n : Fin 2048) : ∀ (k : ℕ) (hk : k < cfg0.N),
    (outsAt0 m c k hk).2 (ix2 0 n) = upTo (spikes m c) decay (k / 5) n (200 * (k % 5 + 1)) := by
  intro k
  induction k with
  | zero =>
    intro hk
    rw [outsAt0_A m c ⟨0, hk⟩ rfl (by dsimp only; omega) (by dsimp only; omega)]
    dsimp only
    rw [Step.first_acc, block_sum, upTo_block, upTo_zero, zero_add]
  | succ k ih =>
    intro hk
    have hN : k + 1 < 320 := step_lt ⟨k + 1, hk⟩
    rw [upTo_block]
    by_cases h0 : (k + 1) % 5 = 0
    · rw [outsAt0_A m c ⟨k + 1, hk⟩ h0 (by dsimp only; omega) (by dsimp only; omega)]
      dsimp only
      rw [Step.first_acc, block_sum]
      dsimp only
      rw [h0, upTo_zero, zero_add]
    · have hprev : upTo (spikes m c) decay (k / 5) n (200 * (k % 5 + 1)) = upTo (spikes m c) decay ((k + 1) / 5) n (200 * ((k + 1) % 5)) := by
        rw [show k / 5 = (k + 1) / 5 by omega, show k % 5 + 1 = (k + 1) % 5 by omega]
      by_cases h2 : (k + 1) % 5 = 4
      · rw [outsAt0_C m c ⟨k + 1, hk⟩ h0 (by dsimp only; omega) h2]
        dsimp only
        rw [Step.last_acc]
        exact congrArg₂ (· + ·) ((ih (Nat.lt_of_succ_lt hk)).trans hprev) (block_sum m c ⟨k + 1, hk⟩ n)
      · rw [outsAt0_B m c ⟨k + 1, hk⟩ h0 (by dsimp only; omega) h2]
        dsimp only
        rw [Step.middle_acc]
        exact congrArg₂ (· + ·) ((ih (Nat.lt_of_succ_lt hk)).trans hprev) (block_sum m c ⟨k + 1, hk⟩ n)

/-- The last step of a batch row writes that row's readout. -/
theorem out_after (c : Dev nD) (t : Fin cfg0.N) (h : t.val % 5 = 4) (hb : t.val / 5 < 64) (o : Fin 35) :
    (outsAt0 m c t.val t.isLt).1 (ix3 0 0 o) = readout (spikes m c) decay (weights m c) (bias m c) ⟨t.val / 5, hb⟩ o := by
  have hacc : ∀ n : Fin 2048, addf (outsAt0 m c (t.val - 1) (Nat.lt_of_le_of_lt (Nat.sub_le _ _) t.isLt)).2
      (k0_pay1 (iblk m c 1 t) (iblk m c 0 t)) (ix2 0 n) = rate (spikes m c) decay ⟨t.val / 5, hb⟩ n := by
    intro n
    have e1 := acc_after m c n (t.val - 1) (Nat.lt_of_le_of_lt (Nat.sub_le _ _) t.isLt)
    rw [show (t.val - 1) / 5 = t.val / 5 by omega, show (t.val - 1) % 5 + 1 = t.val % 5 by omega] at e1
    refine (congrArg₂ (· + ·) e1 (block_sum m c t n)).trans ?_
    show upTo _ _ _ _ _ + _ = _
    rw [← upTo_block, h]
    exact upTo_all (spikes m c) decay ⟨t.val / 5, hb⟩ n
  rw [outsAt0_C m c t (by omega) (by omega) h]
  dsimp only
  rw [Step.last_out, Blocks.readout_apply, bias_block, readout]
  refine congrArg (· + bias m c (ix1 o)) (Finset.sum_congr rfl fun n _ => ?_)
  rw [hacc, weight_block]

end Cert.KernelIdeal.Accumulate
-- ==== Proof.Result.lean ====
/-
  What the kernel's result array holds when the grid has run and the trailing reshape has dropped the unit axis.
-/
module

public import proofs.«01_k».proof.Proof.Accumulate

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Readout Cert.KernelIdeal.Accumulate

variable (m : (ℓ : Loc nD τ sig) → Buf (Elt Ideal) ℓ) (ρ : Dev nD → PrngReg)

/-- The readouts of all batch rows, with the unit axis the grid writes them under. -/
abbrev rows (c : Dev nD) : Buf (Elt Ideal) ((c : Thread nD τ).loc main_v10) :=
  fun i => readout (spikes m c) decay (weights m c) (bias m c) (i 0) (i 2)

/-- The readouts of all batch rows, as a matrix. -/
abbrev table (c : Dev nD) : Buf (Elt Ideal) ((c : Thread nD τ).loc main_v11) :=
  fun i => readout (spikes m c) decay (weights m c) (bias m c) (i 0) (i 1)

/-- Where the output block of step `t` starts. -/
theorem out_start : ∀ t : Fin cfg0.N,
    win0_4.index t (0 : Fin 3) = t.val / 5 ∧ win0_4.index t (1 : Fin 3) = 0 ∧ win0_4.index t (2 : Fin 3) = 0 :=
  (by decide +kernel : ∀ t : Fin grid0.N, _)

/-- A step that writes back writes its batch row's part of the readouts. -/
theorem written (c : Dev nD) (t : Fin cfg0.N) (hf : (cfg0.win 4).flush t = true) :
    (dats m 0 c).flushed 4 t = ((cfg0.win 4).blk t).view.read (Elt Ideal) (rows m c) := by
  have h4 : t.val % 5 = 4 := (flush0_4 t).mp hf
  have ht := step_lt t
  have hb : t.val / 5 < 64 := by omega
  obtain ⟨e0, e1, e2⟩ := out_start t
  show (cfg0.win 4).cut (grid0.coords t) ((dats m 0 c).after 4 t) = _
  rw [after0_4]
  funext y
  have hy0 : (y 0).val < 1 := (y 0).isLt
  have hy1 : (y 1).val < 1 := (y 1).isLt
  have hy2 : (y 2).val < 35 := (y 2).isLt
  rw [View.read_apply]
  have hx : (cfg0.win 4).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  show (outsAt0 m c t.val t.isLt).1 ((cfg0.win 4).xinj (grid0.coords t) y) = _
  rw [hx, out_after m c t h4 hb]
  show _ = readout _ _ _ _ (((cfg0.win 4).blk t).view.emb y 0) (((cfg0.win 4).blk t).view.emb y 2)
  congr 1 <;> apply Fin.ext
  · show t.val / 5 = win0_4.index t (0 : Fin 3) * 1 + 1 * (y 0).val; omega
  · show (y 2).val = win0_4.index t (2 : Fin 3) * 35 + 1 * (y 2).val; omega

/-- Every entry of the array lies in the block that the last step of its batch row writes back. -/
theorem covered (i : S64x1x35.Idx) : ∃ t : Fin cfg0.N, (cfg0.win 4).flush t = true ∧ i ∈ ((cfg0.win 4).blk t).view.set := by
  have h0 : (i 0).val < 64 := (i 0).isLt
  have h1 : (i 1).val < 1 := (i 1).isLt
  have h2 : (i 2).val < 35 := (i 2).isLt
  have hlt : 5 * (i 0).val + 4 < cfg0.N := lt_of_lt_of_eq (by omega) (show 320 = cfg0.N from N_0.symm)
  obtain ⟨e0, e1, e2⟩ := out_start ⟨5 * (i 0).val + 4, hlt⟩
  dsimp only at e0
  refine ⟨⟨5 * (i 0).val + 4, hlt⟩, (flush0_4 _).mpr (by dsimp only; omega), ?_⟩
  show i ∈ ((View.whole main_v10).slice (win0_4.rect ⟨5 * (i 0).val + 4, hlt⟩)).set
  rw [View.set_slice_whole, Rect.mem_set_unit]
  intro a
  match a with
  | ⟨0, _⟩ =>
    show win0_4.index ⟨5 * (i 0).val + 4, hlt⟩ (0 : Fin 3) * 1 ≤ (i 0).val
      ∧ (i 0).val < win0_4.index ⟨5 * (i 0).val + 4, hlt⟩ (0 : Fin 3) * 1 + 1
    omega
  | ⟨1, _⟩ =>
    show win0_4.index ⟨5 * (i 0).val + 4, hlt⟩ (1 : Fin 3) * 1 ≤ (i 1).val
      ∧ (i 1).val < win0_4.index ⟨5 * (i 0).val + 4, hlt⟩ (1 : Fin 3) * 1 + 1
    omega
  | ⟨2, _⟩ =>
    show win0_4.index ⟨5 * (i 0).val + 4, hlt⟩ (2 : Fin 3) * 35 ≤ (i 2).val
      ∧ (i 2).val < win0_4.index ⟨5 * (i 0).val + 4, hlt⟩ (2 : Fin 3) * 35 + 35
    omega

/-- So the array the grid writes ends as the readouts of all batch rows. -/
theorem grid_array (c : Dev nD) : (dats m 0 c).arrAt 4 cfg0.N = rows m c :=
  (dats m 0 c).arrAt_eq_of_cover 4 (rows m c) (written m c) covered

/-- The trailing reshape turns that array into the matrix of readouts. -/
theorem reshaped (c : Dev nD) : Pipeline.afterTail₀ cfgs (dats m) 0 (V0 m) [hostOps1] c main_v11 = table m c := by
  have hv : Pipeline.withArrays spec0 c (V0 m c) (fun w => (dats m 0 c).arrAt w cfg0.N) (Proc.devRef .tc main_v10) = rows m c :=
    (Pipeline.withArrays_arr spec0 (by decide) c (V0 m c) _ 4).trans (grid_array m c)
  have hs : Pipeline.afterTail₀ cfgs (dats m) 0 (V0 m) [hostOps1] c main_v11
      = shapeCast S64x35 (Pipeline.withArrays spec0 c (V0 m c) (fun w => (dats m 0 c).arrAt w cfg0.N) (Proc.devRef .tc main_v10)) shapeCasts_S64x1x35_S64x35 := by
    show StableHlo.after hostOps1 _ (Proc.devRef .tc main_v11) = _
    after_results
    rfl
  rw [hs, hv]
  funext y
  refine shapeCast_apply (s := S64x1x35) (t := S64x35) (rows m c) _ y (ix3 (y 0) 0 (y 1)) ?_
  rw [Shape.rowMajor_val_three, Shape.rowMajor_val_two]
  show ((y 0).val * 1 + 0) * 35 + (y 1).val = (y 0).val * 35 + (y 1).val
  omega

/-- The kernel runs, ends with the matrix of readouts, and leaves its arguments unchanged. -/
theorem run : θ_run defs (onTc (τ := τ) (main (F := Ideal))) ⟨m, fun _ => 0, ρ⟩ fun r => ∀ c : Dev nD,
      r.2.mem ((c.tc : Thread nD τ).loc main_v11) = table m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun r h c => ⟨((h.1 c).2 main_v11 (Pipeline.mem_restRefs_of main_v11 (by decide) (by decide))).trans (reshaped m c), h.2 c⟩)
    (θ_run_and (run_main m ρ) (unchanged m ρ))

end Cert.KernelIdeal.Result
-- ==== Proof.Reference.lean ====
/-
  What the reference computes, entry by entry over the extended reals.
-/
module

public import proofs.«01_k».proof.Proof.Readout
public import proofs.«01_k».proof.Proof.Gen.ReferenceIdeal.Run
public import Idealize.ShloMosaic.Lib.Pipeline.Value
public import Idealize.ShloMosaic.Lib.StackMember

@[expose] public section

set_option maxRecDepth 16384

noncomputable section

open Idealize.ShloMosaic Idealize.ShloMosaic.TcCoe Idealize.SL.Sem

namespace Cert.ReferenceIdeal.Entries

open Cert.ReferenceIdeal Cert.ReferenceIdeal.Gen Idealize.ShloMosaic.ValueIdx Cert.Readout Idealize.ShloMosaic.StackMember

/-- The contraction of the spikes with the decay, at batch row `b` and neuron `n`, is the smoothed firing rate. -/
theorem rate_apply (s : FVec Ideal S64x1000x2048 .f32) (d : FVec Ideal S1000 .f32) (b : Fin 64) (n : Fin 2048) :
    (Host.dotGeneral dot_S64x1000x2048_S1000_S64x2048_1_0_02_n_n_n none s d : FVec Ideal S64x2048 .f32) (ix2 b n) = rate s d b n := by
  let D : DotDims S64x1000x2048 S1000 S64x2048 := dot_S64x1000x2048_S1000_S64x2048_1_0_02_n_n_n
  show FloatOps.dotGeneral D none _ s d (ix2 b n) = _
  rw [Ideal.dotGeneral_apply, ← Equiv.sum_comp (contrEquiv1 D 1000 rfl rfl).symm]
  unfold rate
  refine Finset.sum_congr rfl fun t _ => ?_
  have ht := contrEquiv1_symm_val D 1000 rfl rfl t
  have hl : D.lhsIdx (ix2 b n) ((contrEquiv1 D 1000 rfl rfl).symm t) = ix3 b t n := by
    funext a; apply Fin.ext
    match a with
    | ⟨0, _⟩ => rfl
    | ⟨1, _⟩ => exact ht
    | ⟨2, _⟩ => rfl
  have hr : D.rhsIdx (ix2 b n) ((contrEquiv1 D 1000 rfl rfl).symm t) = ix1 t := by
    funext a; apply Fin.ext
    match a with
    | ⟨0, _⟩ => exact ht
  rw [hl, hr]

/-- The reference's operations after the decay, at batch row `b` and output `o`, are the readout. -/
theorem readout_apply (s : FVec Ideal S64x1000x2048 .f32) (d : FVec Ideal S1000 .f32) (w : FVec Ideal S35x2048 .f32) (β : FVec Ideal S35 .f32)
    (b : Fin 64) (o : Fin 35) :
    (addf (Host.dotGeneral dot_S64x2048_S2048x35_S64x35_1_0_0_1_n_n none
        (Host.dotGeneral dot_S64x1000x2048_S1000_S64x2048_1_0_02_n_n_n none s d)
        (transpose S2048x35 [1, 0] w transposes_S35x2048_S2048x35_1_0))
      (broadcastInDim S64x35 ![0, 1] bcast_S1x35_S64x35_0_1 (broadcastInDim S1x35 ![1] bcast_S35_S1x35_1 β)) : FVec Ideal S64x35 .f32) (ix2 b o)
      = readout s d w β b o := by
  refine congrArg₂ (· + ·) ((dotGeneral_plain_apply (m := 64) (k := 2048) (n := 35) none _ _ b o).trans ?_) ?_
  · refine Finset.sum_congr rfl fun n _ => congrArg₂ (· * ·) (rate_apply s d b n) ?_
    refine transpose_apply _ w _ (ix2 n o) (ix2 o n) fun a => ?_
    match a with
    | ⟨0, _⟩ => rfl
    | ⟨1, _⟩ => rfl
  · refine (broadcastInDim_apply _ _ _ (ix2 b o) (ix2 0 o) fun a => ?_).trans
      (broadcastInDim_apply _ _ β (ix2 0 o) (ix1 o) fun a => ?_)
    · match a with
      | ⟨0, _⟩ => rfl
      | ⟨1, _⟩ => rfl
    · match a with
      | ⟨0, _⟩ => rfl

end Cert.ReferenceIdeal.Entries
-- ==== Proof.lean ====
/-
  The claims of this certificate, assembled. The kernel smooths spike trains by a decay block by block and reads the rates
  out linearly; the reference does the same with two whole-array products. Over the extended reals they end equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, leaves its arguments unchanged, and every semaphore counter ends at zero. -/
theorem frame_kernel : Cert.quiescent_Kernel := fun m ρ _ => Cert.Kernel.Gen.frame m ρ

/-- So does the kernel read over the extended reals. -/
theorem frame_ideal : Cert.quiescent_KernelIdeal := fun m ρ _ => Cert.KernelIdeal.Gen.frame m ρ

/-- So does the reference read over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel is the kernel's own text: no operation was rewritten. -/
theorem preserves : Cert.preserves_Kernel_KernelIdeal := trivial

/-- From equal arguments, the kernel and the reference end with the same matrix of readouts over the extended reals. -/
theorem algebraic : Cert.algebraic_KernelIdeal_ReferenceIdeal := by
  intro m ρ m' ρ' _ hargs
  refine ⟨Cert.KernelIdeal.Result.table m, Cert.KernelIdeal.Result.run m ρ, ?_⟩
  refine (θ_run Cert.ReferenceIdeal.defs _ _).mono (fun r h c => ⟨(h c).1.trans ?_, (h c).2⟩)
    (Cert.ReferenceIdeal.Value.run (F := Ideal) m' ρ')
  rw [(hargs c).1, (hargs c).2.1, (hargs c).2.2]
  funext y
  rw [ValueIdx.eq_ix2 y]
  exact Cert.ReferenceIdeal.Entries.readout_apply _ Cert.KernelIdeal.Accumulate.decay _ _ (y 0) (y 1)

/-- All the claims. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
